-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3x512x512 : Shape := ⟨4, ![8, 3, 512, 512]⟩
abbrev S64x3x3x3 : Shape := ⟨4, ![64, 3, 3, 3]⟩
abbrev S64x27 : Shape := ⟨2, ![64, 27]⟩
abbrev S8x64x510x512 : Shape := ⟨4, ![8, 64, 510, 512]⟩
abbrev S1x3x56x512 : Shape := ⟨4, ![1, 3, 56, 512]⟩
abbrev S1x3x8x512 : Shape := ⟨4, ![1, 3, 8, 512]⟩
abbrev S1x64x56x512 : Shape := ⟨4, ![1, 64, 56, 512]⟩
abbrev S1x1x56x512 : Shape := ⟨4, ![1, 1, 56, 512]⟩
abbrev S56x512 : Shape := ⟨2, ![56, 512]⟩
abbrev S1x1x8x512 : Shape := ⟨4, ![1, 1, 8, 512]⟩
abbrev S8x512 : Shape := ⟨2, ![8, 512]⟩
abbrev S64x512 : Shape := ⟨2, ![64, 512]⟩
abbrev S1x56x512 : Shape := ⟨3, ![1, 56, 512]⟩
abbrev S28x56x512 : Shape := ⟨3, ![28, 56, 512]⟩
abbrev S64 : Shape := ⟨1, ![64]⟩
abbrev S64x1 : Shape := ⟨2, ![64, 1]⟩
abbrev S64x28 : Shape := ⟨2, ![64, 28]⟩
abbrev S64x56x512 : Shape := ⟨3, ![64, 56, 512]⟩
abbrev S8x64x510x510 : Shape := ⟨4, ![8, 64, 510, 510]⟩

abbrev nBuf : Space → Nat
  | .hbm => 8
  | .vmem => 8
  | .smem => 0
  | _ => 0

abbrev bufTy : (tb : Table) → Fin (tcTables nBuf tb) → BufTy
  | .hbm, ⟨0, _⟩ => ⟨S8x3x512x512, .f32⟩
  | .hbm, ⟨1, _⟩ => ⟨S64x3x3x3, .f32⟩
  | .hbm, ⟨2, _⟩ => ⟨S64x3x3x3, .f32⟩
  | .hbm, ⟨3, _⟩ => ⟨S64x27, .f32⟩
  | .hbm, ⟨4, _⟩ => ⟨S64x27, .f32⟩
  | .hbm, ⟨5, _⟩ => ⟨S8x64x510x512, .bf16⟩
  | .hbm, ⟨6, _⟩ => ⟨S8x64x510x510, .bf16⟩
  | .hbm, ⟨7, _⟩ => ⟨S8x64x510x510, .f32⟩
  | .local _ .vmem, ⟨0, _⟩ => ⟨S1x3x56x512, .f32⟩
  | .local _ .vmem, ⟨1, _⟩ => ⟨S1x3x56x512, .f32⟩
  | .local _ .vmem, ⟨2, _⟩ => ⟨S1x3x8x512, .f32⟩
  | .local _ .vmem, ⟨3, _⟩ => ⟨S1x3x8x512, .f32⟩
  | .local _ .vmem, ⟨4, _⟩ => ⟨S64x27, .f32⟩
  | .local _ .vmem, ⟨5, _⟩ => ⟨S64x27, .f32⟩
  | .local _ .vmem, ⟨6, _⟩ => ⟨S1x64x56x512, .bf16⟩
  | .local _ .vmem, ⟨7, _⟩ => ⟨S1x64x56x512, .bf16⟩
  | _, _ => ⟨S8x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 10], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.muli v0 c7_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![arg0.toNat, c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x56x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x27 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x27 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x56x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x3x512x512 : Shape := ⟨4, ![8, 3, 512, 512]⟩
abbrev S64x3x3x3 : Shape := ⟨4, ![64, 3, 3, 3]⟩
abbrev S_ : Shape := ⟨0, ![]⟩
abbrev S8x64x510x510 : Shape := ⟨4, ![8, 64, 510, 510]⟩
abbrev S64x3x1x1 : Shape := ⟨4, ![64, 3, 1, 1]⟩
abbrev S64x3 : Shape := ⟨2, ![64, 3]⟩
abbrev S8x3x510x510 : Shape := ⟨4, ![8, 3, 510, 510]⟩
abbrev S8x510x510x64 : Shape := ⟨4, ![8, 510, 510, 64]⟩
abbrev S64 : Shape := ⟨1, ![64]⟩
abbrev S1x64x1x1 : Shape := ⟨4, ![1, 64, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S8x3x512x512, .f32⟩
  | .hbm, ⟨1, _⟩ => ⟨S64x3x3x3, .f32⟩
  | .hbm, ⟨2, _⟩ => ⟨S64x3x3x3, .f32⟩
  | .hbm, ⟨3, _⟩ => ⟨S_, .f32⟩
  | .hbm, ⟨4, _⟩ => ⟨S8x64x510x510, .f32⟩
  | .hbm, ⟨5, _⟩ => ⟨S64x3x1x1, .f32⟩
  | .hbm, ⟨6, _⟩ => ⟨S64x3, .f32⟩
  | .hbm, ⟨7, _⟩ => ⟨S8x3x510x510, .f32⟩
  | .hbm, ⟨8, _⟩ => ⟨S8x510x510x64, .f32⟩
  | .hbm, ⟨9, _⟩ => ⟨S8x64x510x510, .f32⟩
  | .hbm, ⟨10, _⟩ => ⟨S8x64x510x510, .f32⟩
  | .hbm, ⟨11, _⟩ => ⟨S64x3x1x1, .f32⟩
  | .hbm, ⟨12, _⟩ => ⟨S64x3, .f32⟩
  | .hbm, ⟨13, _⟩ => ⟨S8x3x510x510, .f32⟩
  | .hbm, ⟨14, _⟩ => ⟨S8x510x510x64, .f32⟩
  | .hbm, ⟨15, _⟩ => ⟨S8x64x510x510, .f32⟩
  | .hbm, ⟨16, _⟩ => ⟨S8x64x510x510, .f32⟩
  | .hbm, ⟨17, _⟩ => ⟨S64x3x1x1, .f32⟩
  | .hbm, ⟨18, _⟩ => ⟨S64x3, .f32⟩
  | .hbm, ⟨19, _⟩ => ⟨S8x3x510x510, .f32⟩
  | .hbm, ⟨20, _⟩ => ⟨S8x510x510x64, .f32⟩
  | .hbm, ⟨21, _⟩ => ⟨S8x64x510x510, .f32⟩
  | .hbm, ⟨22, _⟩ => ⟨S8x64x510x510, .f32⟩
  | .hbm, ⟨23, _⟩ => ⟨S64x3x1x1, .f32⟩
  | .hbm, ⟨24, _⟩ => ⟨S64x3, .f32⟩
  | .hbm, ⟨25, _⟩ => ⟨S8x3x510x510, .f32⟩
  | .hbm, ⟨26, _⟩ => ⟨S8x510x510x64, .f32⟩
  | .hbm, ⟨27, _⟩ => ⟨S8x64x510x510, .f32⟩
  | .hbm, ⟨28, _⟩ => ⟨S8x64x510x510, .f32⟩
  | .hbm, ⟨29, _⟩ => ⟨S64x3x1x1, .f32⟩
  | .hbm, ⟨30, _⟩ => ⟨S64x3, .f32⟩
  | .hbm, ⟨31, _⟩ => ⟨S8x3x510x510, .f32⟩
  | .hbm, ⟨32, _⟩ => ⟨S8x510x510x64, .f32⟩
  | .hbm, ⟨33, _⟩ => ⟨S8x64x510x510, .f32⟩
  | .hbm, ⟨34, _⟩ => ⟨S8x64x510x510, .f32⟩
  | .hbm, ⟨35, _⟩ => ⟨S64x3x1x1, .f32⟩
  | .hbm, ⟨36, _⟩ => ⟨S64x3, .f32⟩
  | .hbm, ⟨37, _⟩ => ⟨S8x3x510x510, .f32⟩
  | .hbm, ⟨38, _⟩ => ⟨S8x510x510x64, .f32⟩
  | .hbm, ⟨39, _⟩ => ⟨S8x64x510x510, .f32⟩
  | .hbm, ⟨40, _⟩ => ⟨S8x64x510x510, .f32⟩
  | .hbm, ⟨41, _⟩ => ⟨S64x3x1x1, .f32⟩
  | .hbm, ⟨42, _⟩ => ⟨S64x3, .f32⟩
  | .hbm, ⟨43, _⟩ => ⟨S8x3x510x510, .f32⟩
  | .hbm, ⟨44, _⟩ => ⟨S8x510x510x64, .f32⟩
  | .hbm, ⟨45, _⟩ => ⟨S8x64x510x510, .f32⟩
  | .hbm, ⟨46, _⟩ => ⟨S8x64x510x510, .f32⟩
  | .hbm, ⟨47, _⟩ => ⟨S64x3x1x1, .f32⟩
  | .hbm, ⟨48, _⟩ => ⟨S64x3, .f32⟩
  | .hbm, ⟨49, _⟩ => ⟨S8x3x510x510, .f32⟩
  | .hbm, ⟨50, _⟩ => ⟨S8x510x510x64, .f32⟩
  | .hbm, ⟨51, _⟩ => ⟨S8x64x510x510, .f32⟩
  | .hbm, ⟨52, _⟩ => ⟨S8x64x510x510, .f32⟩
  | .hbm, ⟨53, _⟩ => ⟨S64x3x1x1, .f32⟩
  | .hbm, ⟨54, _⟩ => ⟨S64x3, .f32⟩
  | .hbm, ⟨55, _⟩ => ⟨S8x3x510x510, .f32⟩
  | .hbm, ⟨56, _⟩ => ⟨S8x510x510x64, .f32⟩
  | .hbm, ⟨57, _⟩ => ⟨S8x64x510x510, .f32⟩
  | .hbm, ⟨58, _⟩ => ⟨S8x64x510x510, .f32⟩
  | .hbm, ⟨59, _⟩ => ⟨S_, .f32⟩
  | .hbm, ⟨60, _⟩ => ⟨S64, .f32⟩
  | .hbm, ⟨61, _⟩ => ⟨S1x64x1x1, .f32⟩
  | .hbm, ⟨62, _⟩ => ⟨S8x64x510x510, .f32⟩
  | .hbm, ⟨63, _⟩ => ⟨S8x64x510x510, .f32⟩
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_cst_0 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩

abbrev nD : Nat := 1
abbrev τ : Topo := Topo.v7x

variable {F : FTy → Type} [FloatOps F]
-- ==== Proof.FrameBits.lean ====
/-
  The frame of the kernel as compiled, over any float values: it runs to the end, leaves its three argument arrays
  as they were, and ends with every semaphore counter at zero.

  Nothing is said here of what the output array holds. The last block of each image reaches past the image's end, so
  the rows there come from whatever the staging buffer held before; the product of a whole block is one opaque value
  at general float values, so the output window is forgotten.
-/
module

public import proofs.«01_k».proof.Proof.BodyBits
public import Idealize.ShloMosaic.Lib.Pipeline.FrameSuffix

@[expose] public section

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The image block at a point, its rows past the image's end filled with zeros. -/
def imgBlk (c : Dev nD) (t : Fin cfg0.N) : Vec F S1x3x56x512 .f32 :=
  win0_0.fill (grid0.coords t) (fun _ => Scalar.ofBits .f32 0#32) (iblk m c 0 t)

/-- The proof data: each window's array as the region finds it, each input buffer still at its block after the body.
    The output's entry is a placeholder, for that window is forgotten. -/
def dats (_ : Fin 1) (c : Dev nD) : Dat τ (Elt F) Unit ℕ (UR sig nD τ) ℕ cfg0 c where
  A w := V m c (Pipeline.arrRef spec0 w)
  after w t := match w with
    | ⟨0, _⟩ => imgBlk m c t
    | ⟨1, _⟩ => iblk m c 1 t
    | ⟨2, _⟩ => iblk m c 2 t
    | ⟨3, _⟩ => iblk m c 3 t
    | ⟨4, _⟩ => fun _ => Scalar.ofBits .bf16 0#16
  Φ _ := Pipeline.ΦA spec0 c
  q w := Pipeline.shareOf spec0 w
  owed _ := 0

/-- The output window alone is forgotten. -/
def forgotten : Fin cfg0.W → Bool := fun w => match w with
  | ⟨0, _⟩ => false
  | ⟨1, _⟩ => false
  | ⟨2, _⟩ => false
  | ⟨3, _⟩ => false
  | ⟨4, _⟩ => true

/-- The body finds the image block in its buffer, over whatever the rows past the image's end held. -/
theorem before_img (c : Dev nD) (t : Fin cfg0.N) (d) :
    (dats m 0 c).before 0 t d = win0_0.fill (grid0.coords t) d (iblk m c 0 t) := by
  unfold Dat.before; rw [if_pos (fetch0_0 t)]; rfl

/-- The body finds the halo block, the weights and the biases in their buffers. -/
theorem before_halo (c : Dev nD) (t : Fin cfg0.N) (d) : (dats m 0 c).before 1 t d = iblk m c 1 t :=
  before0_1_of m (dats m 0 c) rfl (fun _ => by dsimp only [dats]) t d
theorem before_wts (c : Dev nD) (t : Fin cfg0.N) (d) : (dats m 0 c).before 2 t d = iblk m c 2 t :=
  before0_2_of m (dats m 0 c) rfl (fun _ => by dsimp only [dats]) t d
theorem before_bias (c : Dev nD) (t : Fin cfg0.N) (d) : (dats m 0 c).before 3 t d = iblk m c 3 t :=
  before0_3_of m (dats m 0 c) rfl (fun _ => by dsimp only [dats]) t d

/-- The body at every point keeps the four input buffers and may leave anything in the output's. -/
theorem body_obligation (c : Dev nD) :
    BodyObligationLoose (dats (F := F) m 0 c) (defs₀ (F := F)) Variants.none () Set.univ forgotten := fun t => by
  rw [bigSep_W0, bigSep_W0]
  simp only [forgotten]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_img m c t d0, before_halo m c t d1, before_wts m c t d2, before_bias m c t d3]
  iapply (sound_kernel (F := F) c Set.univ (grid0.coords t) _ _ _ _ _ _ _ _ _ _
    (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]
  · iexists d0
    have hx : win0_0.cut (grid0.coords t) (imgBlk m c t) = iblk m c 0 t := win0_0.cut_fill _ _ _
    change _ ⊢ owns (c : Thread nD τ) (st0_0 t) fullShare
      (win0_0.fill (grid0.coords t) d0 (win0_0.cut (grid0.coords t) (imgBlk m c t)))
    rw [hx]; try iexact H0
  isplitl [H1]; · iexact H1
  isplitl [H2]; · iexact H2
  isplitl [H3]; · iexact H3
  iexists _; iexact H4

/-- The two buffers the host lines after the region write. -/
def tailBufs : Finset (Ref sig .tc) := {main_v3, main_v4}

/-- The host lines after the region write no other buffer. -/
theorem tail_writes : ∀ ops ∈ ([hostOps1] : List (List (HloOp τ sig (Elt F)))), ∀ op ∈ ops, ∀ b : Ref sig .tc,
    Proc.devRef .tc b ∈ op.writes → b ∈ tailBufs := by
  intro ops hops op hop b hb
  simp only [List.mem_cons, List.mem_nil_iff, or_false] at hops
  subst hops
  simp only [hostOps1, List.mem_cons, List.mem_nil_iff, or_false] at hop
  by_contra hn
  have h3 : b ≠ main_v3 := fun h => hn (h ▸ by decide)
  have h4 : b ≠ main_v4 := fun h => hn (h ▸ by decide)
  rcases hop with rfl | rfl <;>
    simp only [StableHlo.unary_writes, Finset.mem_singleton] at hb
  · exact StableHlo.devRef_ne_of_ne h3 hb
  · exact StableHlo.devRef_ne_of_ne h4 hb

set_option backward.isDefEq.respectTransparency.types false in
/-- The frame: the program ends with its argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget_shared cfgs (dats m) (0 : Fin 1) launch₀0 defs₀ Variants.none forgotten tailBufs
    m ρ main (hbody := body_obligation m) (hq := fun _ _ _ => rfl) (howed := fun _ _ => rfl) (V₀ := V0 m)
    (opss := [hostOps1]) sfx_sub sfx_fresh sfx_keeps tail_writes (hmain m Variants.none)
    (hA := fun _ _ => rfl) (hΦ := fun _ _ => rfl)
    (Q' := _) (hQ' := fun r h => ⟨fun c => ⟨
      (Pipeline.RDat.FramePostR.arr_in h.1 c 1 rfl).trans (V_main_arg0 m c),
      ((h.1 c).2 main_arg1 (Finset.mem_sdiff.mpr ⟨Pipeline.mem_restRefs_of main_arg1 (by decide) (by decide), by decide⟩)).trans
        (V_main_arg1 m c),
      ((h.1 c).2 main_arg2 (Finset.mem_sdiff.mpr ⟨Pipeline.mem_restRefs_of main_arg2 (by decide) (by decide), by decide⟩)).trans
        (V_main_arg2 m c)⟩, h.2⟩)

end Cert.Kernel.Conv

end
-- ==== Proof.BodyIdeal.lean ====
/-
  The body of the convolution kernel at one grid point, over any float values: it reads the 56-row block of the
  image, the 8-row halo block below it, the weights and the biases, and overwrites the whole output buffer. What the
  output buffer ends with is `outBlk`, a function of the four input buffers alone.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Channel 0, 1, 2 of the 56-row image block, and of the 8-row halo block; a whole weight table; the whole output. -/
abbrev rA0 : Rect S1x3x56x512 := Rect.unit (s := S1x3x56x512) ![0, 0, 0, 0] S1x1x56x512.size inb_S1x3x56x512_S1x1x56x512_0_0_0_0
abbrev rA1 : Rect S1x3x56x512 := Rect.unit (s := S1x3x56x512) ![0, 1, 0, 0] S1x1x56x512.size inb_S1x3x56x512_S1x1x56x512_0_1_0_0
abbrev rA2 : Rect S1x3x56x512 := Rect.unit (s := S1x3x56x512) ![0, 2, 0, 0] S1x1x56x512.size inb_S1x3x56x512_S1x1x56x512_0_2_0_0
abbrev rB0 : Rect S1x3x8x512 := Rect.unit (s := S1x3x8x512) ![0, 0, 0, 0] S1x1x8x512.size inb_S1x3x8x512_S1x1x8x512_0_0_0_0
abbrev rB1 : Rect S1x3x8x512 := Rect.unit (s := S1x3x8x512) ![0, 1, 0, 0] S1x1x8x512.size inb_S1x3x8x512_S1x1x8x512_0_1_0_0
abbrev rB2 : Rect S1x3x8x512 := Rect.unit (s := S1x3x8x512) ![0, 2, 0, 0] S1x1x8x512.size inb_S1x3x8x512_S1x1x8x512_0_2_0_0
abbrev rW : Rect S64x27 := Rect.unit (s := S64x27) ![0, 0] S64x27.size inb_S64x27_S64x27_0_0
abbrev rO : Rect S1x64x56x512 := Rect.unit (s := S1x64x56x512) ![0, 0, 0, 0] S1x64x56x512.size inb_S1x64x56x512_S1x64x56x512_0_0_0_0

/-- The 28 planes the body stacks: for each channel the nine shifted copies of its rows, then a plane of ones. -/
def patch (a0 a1 a2 : Vec F S1x1x56x512 .f32) (b0 b1 b2 : Vec F S1x1x8x512 .f32) : FVec F S28x56x512 .bf16 :=
  k0_pay1 (k0_pay11 a0 b0) (k0_pay13 a0 b0) (k0_pay14 a0 b0) (k0_pay15 a0 b0)
    (k0_pay18 a1 b1) (k0_pay19 a1 b1) (k0_pay20 a1 b1)
    (k0_pay22 (k0_pay16 a1 b1)) (k0_pay23 (k0_pay16 a1 b1)) (k0_pay24 (k0_pay16 a1 b1))
    (k0_pay26 (k0_pay16 a1 b1)) (k0_pay27 (k0_pay16 a1 b1)) (k0_pay28 (k0_pay16 a1 b1))
    (k0_pay31 a2 b2) (k0_pay32 a2 b2) (k0_pay33 a2 b2) (k0_pay35 a2 b2) (k0_pay36 a2 b2) (k0_pay37 a2 b2)
    (k0_pay39 a2 b2) (k0_pay40 a2 b2) (k0_pay41 a2 b2) k0_pay42
    (k0_pay43 (k0_pay5 a0 b0)) (k0_pay44 (k0_pay6 a0 b0)) (k0_pay45 (k0_pay7 a0 b0)) (k0_pay46 (k0_pay9 a0 b0))
    (k0_pay47 (k0_pay10 a0 b0))

/-- What the output buffer holds after the body, from what the four input buffers hold. -/
def outBlk (x0 : Vec F S1x3x56x512 .f32) (x1 : Vec F S1x3x8x512 .f32) (x2 x3 : Vec F S64x27 .f32) : Vec F S1x64x56x512 .bf16 :=
  View.canon [⟨rO, k0_pay2 (patch (View.ld x0 rA0) (View.ld x0 rA1) (View.ld x0 rA2) (View.ld x1 rB0) (View.ld x1 rB1)
    (View.ld x1 rB2)) (View.ld x3 rW) (View.ld x2 rW)⟩]

/-- The output's one store covers the output buffer. -/
theorem cover_out (p : Vec F S1x64x56x512 .bf16) (y : S1x64x56x512.Idx) :
    ∃ pc ∈ ([⟨rO, p⟩] : List (View.Piece (Elt F) S1x64x56x512 .bf16)), y ∈ pc.1.set :=
  View.cover_of_tiled [⟨rO, p⟩] S1x64x56x512.size (by rfl) y

set_option maxHeartbeats 1000000 in
/-- The body leaves its four input buffers as they were and its output buffer at `outBlk`. -/
theorem sound_kernel (c : Dev nD) (E : Set ℕ) (i : grid0.Coords)
    (arg2 : Memref sig .tc .vmem S1x3x56x512 .f32) (harg2 : arg2.IsWhole)
    (arg3 : Memref sig .tc .vmem S1x3x8x512 .f32) (harg3 : arg3.IsWhole)
    (arg4 : Memref sig .tc .vmem S64x27 .f32) (harg4 : arg4.IsWhole)
    (arg5 : Memref sig .tc .vmem S64x27 .f32) (harg5 : arg5.IsWhole)
    (arg6 : Memref sig .tc .vmem S1x64x56x512 .bf16) (harg6 : arg6.IsWhole)
    (x0 : Vec F S1x3x56x512 .f32) (x1 : Vec F S1x3x8x512 .f32) (x2 x3 : Vec F S64x27 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (outBlk x0 x1 x2 x3)) -∗ K ⟨⟩))
      ⊢ wp frame (wpE (defs₀ (F := F)) Variants.none c none) E
          (cc0__conv_body i arg2 harg2 arg3 harg3 arg4 harg4 arg5 harg5 arg6 harg6) K := by
  simp only [cc0__conv_body_eq_skeleton]; unfold cc0__conv_body_skel
  simp only [k0_part1_eq_skeleton]; unfold k0_part1_skel
  simp only [k0_part2_eq_skeleton]; unfold k0_part2_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

end Cert.KernelIdeal.Conv

end
-- ==== Proof.BlockIdeal.lean ====
/-
  The kernel's block at an index, over ideal values: entry (d, r, j) of the block that the body stores is a sum of 27
  products of a weight by an image entry, plus the sum of channel d's 27 biases. The 27 image entries are those of
  the three channels at rows r, r+1, r+2 and at lanes j, j+1, j+2, the lanes counted around the row's end.
-/
module

public import proofs.«01_k».proof.Proof.BodyIdeal
public import Idealize.ShloMosaic.Lib.Pipeline.ValueKit

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic

/-- Row `s` (of 64), lane `l`, of channel `ch` of an image block with its halo block below it. -/
def strip (x0 : Vec Ideal S1x3x56x512 .f32) (x1 : Vec Ideal S1x3x8x512 .f32) (ch : Fin 3) (s : Fin 64) (l : Fin 512) :
    Elt Ideal .f32 :=
  if h : s.val < 56 then x0 (ix4 0 ch ⟨s.val, h⟩ l) else x1 (ix4 0 ch ⟨s.val - 56, by omega⟩ l)

set_option maxHeartbeats 2000000 in
/-- Plane `k` of the stack, `k < 27`, is channel `k / 9` shifted by `k / 3 % 3` rows and `k % 3` lanes. -/
theorem patch_at (x0 : Vec Ideal S1x3x56x512 .f32) (x1 : Vec Ideal S1x3x8x512 .f32) (k : Fin 27) (r : Fin 56) (j : Fin 512) :
    patch (View.ld x0 rA0) (View.ld x0 rA1) (View.ld x0 rA2) (View.ld x1 rB0) (View.ld x1 rB1) (View.ld x1 rB2)
        (ix3 ⟨k.val, by omega⟩ r j)
      = strip x0 x1 ⟨k.val / 9, by omega⟩ ⟨r.val + k.val / 3 % 3, by omega⟩ ⟨(j.val + k.val % 3) % 512, by omega⟩ := by
  have hr := r.isLt
  have hj := j.isLt
  pointwise [patch, k0_pay1, strip]
  fin_vals k with hk
  all_goals simp only [hk, Nat.reduceSub, Nat.reduceLT, ↓reduceDIte, Nat.reduceDiv, Nat.reduceMod]
  all_goals pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  all_goals first
    | blk_ext []
    | (split <;> split <;> first
        | (exfalso; omega)
        | blk_ext [])

/-- Plane 27 of the stack is all ones. -/
theorem patch_ones (x0 : Vec Ideal S1x3x56x512 .f32) (x1 : Vec Ideal S1x3x8x512 .f32) (r : Fin 56) (j : Fin 512) :
    patch (View.ld x0 rA0) (View.ld x0 rA1) (View.ld x0 rA2) (View.ld x1 rB0) (View.ld x1 rB1) (View.ld x1 rB2)
        (ix3 27 r j) = (1 : EReal) := by
  pointwise [patch, k0_pay1, k0_pay42]

/-- The stored block at an index. -/
theorem outBlk_at (x0 : Vec Ideal S1x3x56x512 .f32) (x1 : Vec Ideal S1x3x8x512 .f32) (w b : Vec Ideal S64x27 .f32)
    (d : Fin 64) (r : Fin 56) (j : Fin 512) :
    outBlk x0 x1 w b (ix4 0 d r j)
      = (∑ k : Fin 27, (w (ix2 d k) : EReal) * strip x0 x1 ⟨k.val / 9, by omega⟩ ⟨r.val + k.val / 3 % 3, by omega⟩
            ⟨(j.val + k.val % 3) % 512, by omega⟩)
        + ∑ k : Fin 27, (b (ix2 d k) : EReal) := by
  unfold outBlk
  rw [View.canon_cons_unit_lit _ _ _ (by decide), View.ld_unit_lit _ b (by decide), View.ld_unit_lit _ w (by decide)]
  generalize hp : patch (View.ld x0 rA0) (View.ld x0 rA1) (View.ld x0 rA2) (View.ld x1 rB0) (View.ld x1 rB1) (View.ld x1 rB2) = p
  pointwise [k0_pay2]
  have h27 : p (ix3 27 r j) = (1 : EReal) := by rw [← hp]; exact patch_ones x0 x1 r j
  have hk : ∀ k : Fin 27, p (ix3 ⟨k.val, by omega⟩ r j) = strip x0 x1 ⟨k.val / 9, by omega⟩ ⟨r.val + k.val / 3 % 3, by omega⟩
      ⟨(j.val + k.val % 3) % 512, by omega⟩ := fun k => by rw [← hp]; exact patch_at x0 x1 k r j
  simp only [h27, hk, mul_one, Finset.univ_unique, Finset.sum_singleton]

end Cert.KernelIdeal.Conv

end
-- ==== Proof.PointIdeal.lean ====
/-
  The kernel's block as a block of one array, over ideal values. The convolution of the image array with the weights,
  plus each channel's bias sum, is written as one function of the three arrays the region finds; the block that the
  body stores at a grid point agrees with it on every row that lies inside the output array, whatever the rows of the
  image buffer past the image's end hold.
-/
module

public import proofs.«01_k».proof.Proof.BlockIdeal
public import Idealize.ShloMosaic.Lib.Pipeline.FrameSuffix

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-- The convolution: at image `i 0`, channel `i 1`, row `i 2` and lane `i 3`, the sum over the 27 taps of weight
    times image entry (lanes counted around the row's end), plus the channel's biases. -/
def conv (x : S8x3x512x512.Idx → Elt Ideal .f32) (w b : S64x27.Idx → Elt Ideal .f32) : S8x64x510x512.Idx → Elt Ideal .bf16 :=
  fun i => ((∑ k : Fin 27, (w (ix2 (i 1) k) : EReal) * x (ix4 (i 0) ⟨k.val / 9, by omega⟩
        ⟨(i 2).val + k.val / 3 % 3, by have : (i 2).val < 510 := (i 2).isLt; omega⟩
        ⟨((i 3).val + k.val % 3) % 512, by omega⟩))
      + ∑ k : Fin 27, (b (ix2 (i 1) k) : EReal) : EReal)

/-- The blocks' indices at a grid point. -/
theorem index_img : ∀ t : Fin cfg0.N, win0_0.index t = ![t.val / 10, 0, t.val % 10, 0] :=
  (by decide +kernel : ∀ t : Fin grid0.N, _)
theorem index_halo : ∀ t : Fin cfg0.N, win0_1.index t = ![t.val / 10, 0, min ((t.val % 10 + 1) * 7) 63, 0] :=
  (by decide +kernel : ∀ t : Fin grid0.N, _)
theorem index_wts : ∀ t : Fin cfg0.N, win0_2.index t = ![0, 0] := (by decide +kernel : ∀ t : Fin grid0.N, _)
theorem index_bias : ∀ t : Fin cfg0.N, win0_3.index t = ![0, 0] := (by decide +kernel : ∀ t : Fin grid0.N, _)
theorem index_out : ∀ t : Fin cfg0.N, win0_4.index t = ![t.val / 10, 0, t.val % 10, 0] :=
  (by decide +kernel : ∀ t : Fin grid0.N, _)

/-- The extents of the parts of the image and output blocks inside their arrays. -/
theorem xsize_img : ∀ t : Fin cfg0.N, win0_0.xsize (grid0.coords t) = ![1, 3, min 56 (512 - t.val % 10 * 56), 512] :=
  (by decide +kernel : ∀ t : Fin grid0.N, _)
theorem xsize_out : ∀ t : Fin cfg0.N, win0_4.xsize (grid0.coords t) = ![1, 64, min 56 (510 - t.val % 10 * 56), 512] :=
  (by decide +kernel : ∀ t : Fin grid0.N, _)

/-- A row of the image buffer inside the image is the image's. -/
theorem img_at (c : Dev nD) (t : Fin cfg0.N) (d0 : S1x3x56x512.Idx → Elt Ideal .f32) (ch : Fin 3) (s : Fin 56) (l : Fin 512)
    (hs : t.val % 10 * 56 + s.val < 512) (ht : t.val < 80) :
    (win0_0.fill (grid0.coords t) d0 (iblk m c 0 t) : S1x3x56x512.Idx → Elt Ideal .f32) (ix4 0 ch s l)
      = V m c main_arg0 (ix4 (⟨t.val / 10, by omega⟩ : Fin 8) ch (⟨t.val % 10 * 56 + s.val, hs⟩ : Fin 512) l) := by
  have hx := xsize_img t
  have hs' := s.isLt
  have hch := ch.isLt
  have hl := l.isLt
  unfold Window.fill
  rw [dif_pos ((win0_0.moved_iff _ _).mpr (by
    rw [hx]
    intro a
    fin_cases a
    · show (0 : ℕ) < 1; omega
    · exact hch
    · show s.val < min 56 (512 - t.val % 10 * 56); omega
    · exact hl))]
  blk_simp [iblk]
  congr 1
  blk_ext [index_img t]

/-- A row of the halo buffer is the image's. -/
theorem halo_at (c : Dev nD) (t : Fin cfg0.N) (ch : Fin 3) (s : Fin 8) (l : Fin 512) (ht : t.val < 80)
    (hs : t.val % 10 * 56 + 56 + s.val < 512) :
    (iblk m c 1 t : S1x3x8x512.Idx → Elt Ideal .f32) (ix4 0 ch s l)
      = V m c main_arg0 (ix4 (⟨t.val / 10, by omega⟩ : Fin 8) ch (⟨t.val % 10 * 56 + 56 + s.val, hs⟩ : Fin 512) l) := by
  have hs' := s.isLt
  blk_simp [iblk]
  congr 1
  blk_ext [index_halo t]

/-- The two buffers together are 64 consecutive rows of the image, as far as the image reaches. -/
theorem strip_at (c : Dev nD) (t : Fin cfg0.N) (d0 : S1x3x56x512.Idx → Elt Ideal .f32) (ch : Fin 3) (s : Fin 64) (l : Fin 512)
    (ht : t.val < 80) (hs : t.val % 10 * 56 + s.val < 512) :
    strip (win0_0.fill (grid0.coords t) d0 (iblk m c 0 t)) (iblk m c 1 t) ch s l
      = V m c main_arg0 (ix4 (⟨t.val / 10, by omega⟩ : Fin 8) ch (⟨t.val % 10 * 56 + s.val, hs⟩ : Fin 512) l) := by
  unfold strip
  split
  · next h => exact img_at m c t d0 ch ⟨s.val, h⟩ l hs ht
  · next h =>
    rw [halo_at m c t ch ⟨s.val - 56, by omega⟩ l ht (by show _ + 56 + (s.val - 56) < 512; omega)]
    congr 1
    congr 1
    exact Fin.ext (by show t.val % 10 * 56 + 56 + (s.val - 56) = t.val % 10 * 56 + s.val; omega)

/-- The weights' and the biases' buffers hold their whole arrays. -/
theorem wts_at (c : Dev nD) (t : Fin cfg0.N) (d : Fin 64) (k : Fin 27) :
    (iblk m c 2 t : S64x27.Idx → Elt Ideal .f32) (ix2 d k) = V m c main_v0 (ix2 d k) := by
  blk_simp [iblk]
  congr 1
  blk_ext [index_wts t]
theorem bias_at (c : Dev nD) (t : Fin cfg0.N) (d : Fin 64) (k : Fin 27) :
    (iblk m c 3 t : S64x27.Idx → Elt Ideal .f32) (ix2 d k) = V m c main_v1 (ix2 d k) := by
  blk_simp [iblk]
  congr 1
  blk_ext [index_bias t]

/-- The body's block at a row inside the output array is the convolution there. -/
theorem outBlk_conv (c : Dev nD) (t : Fin cfg0.N) (d0 : S1x3x56x512.Idx → Elt Ideal .f32) (d : Fin 64) (r : Fin 56) (l : Fin 512)
    (ht : t.val < 80) (hr : t.val % 10 * 56 + r.val < 510) :
    outBlk (win0_0.fill (grid0.coords t) d0 (iblk m c 0 t)) (iblk m c 1 t) (iblk m c 2 t) (iblk m c 3 t) (ix4 0 d r l)
      = conv (V m c main_arg0) (V m c main_v0) (V m c main_v1)
          (ix4 (⟨t.val / 10, by omega⟩ : Fin 8) d (⟨t.val % 10 * 56 + r.val, hr⟩ : Fin 510) l) := by
  refine (outBlk_at _ _ _ _ d r l).trans ?_
  unfold conv
  refine congrArg₂ (fun a b : EReal => a + b) (Finset.sum_congr rfl fun k _ => ?_) (Finset.sum_congr rfl fun k _ => bias_at m c t d k)
  refine congrArg₂ (fun a b : EReal => a * b) (wts_at m c t d k) ?_
  refine (strip_at m c t d0 _ _ _ ht (by show _ + (r.val + k.val / 3 % 3) < 512; omega)).trans ?_
  refine congrArg (V m c main_arg0) ?_
  funext a
  fin_cases a
  · rfl
  · rfl
  · exact Fin.ext (by show t.val % 10 * 56 + (r.val + k.val / 3 % 3) = t.val % 10 * 56 + r.val + k.val / 3 % 3; omega)
  · rfl

/-- A multi-index of the output block's part inside the array, as one of the block. -/
theorem xinj_out (t : Fin cfg0.N) (j : (win0_4.xblock (grid0.coords t)).Idx) (h1 : (j 1).val < 64) (h2 : (j 2).val < 56)
    (h3 : (j 3).val < 512) (h0 : (j 0).val = 0) :
    win0_4.xinj (grid0.coords t) j = ix4 (0 : Fin 1) (⟨(j 1).val, h1⟩ : Fin 64) (⟨(j 2).val, h2⟩ : Fin 56) (⟨(j 3).val, h3⟩ : Fin 512) := by
  funext a
  fin_cases a
  · exact Fin.ext h0
  · rfl
  · rfl
  · rfl

/-- The same multi-index, as one of the array. -/
theorem emb_out (t : Fin cfg0.N) (j : (win0_4.xblock (grid0.coords t)).Idx) (ht : t.val < 80) (h1 : (j 1).val < 64)
    (h2 : t.val % 10 * 56 + (j 2).val < 510) (h3 : (j 3).val < 512) (h0 : (j 0).val = 0) :
    (win0_4.blk t).view.emb j = ix4 (⟨t.val / 10, by omega⟩ : Fin 8) (⟨(j 1).val, h1⟩ : Fin 64)
      (⟨t.val % 10 * 56 + (j 2).val, h2⟩ : Fin 510) (⟨(j 3).val, h3⟩ : Fin 512) := by
  have hi := index_out t
  funext a
  fin_cases a
  · exact Fin.ext (by show win0_4.index t 0 * 1 + 1 * (j 0).val = t.val / 10; rw [hi, h0]; show t.val / 10 * 1 + 1 * 0 = _; omega)
  · exact Fin.ext (by show win0_4.index t 1 * 64 + 1 * (j 1).val = (j 1).val; rw [hi]; show 0 * 64 + 1 * (j 1).val = _; omega)
  · exact Fin.ext (by
      show win0_4.index t 2 * 56 + 1 * (j 2).val = t.val % 10 * 56 + (j 2).val
      rw [hi]; show t.val % 10 * 56 + 1 * (j 2).val = _; omega)
  · exact Fin.ext (by show win0_4.index t 3 * 512 + 1 * (j 3).val = (j 3).val; rw [hi]; show 0 * 512 + 1 * (j 3).val = _; omega)

/-- The body's block, on the rows inside the output array, is the convolution's block at the point. -/
theorem point (c : Dev nD) (t : Fin cfg0.N) (d0 : S1x3x56x512.Idx → Elt Ideal .f32) :
    win0_4.cut (grid0.coords t) (outBlk (win0_0.fill (grid0.coords t) d0 (iblk m c 0 t)) (iblk m c 1 t) (iblk m c 2 t) (iblk m c 3 t))
      = (win0_4.blk t).view.read (Elt Ideal) (conv (V m c main_arg0) (V m c main_v0) (V m c main_v1)) := by
  funext j
  have ht : t.val < 80 := t.isLt
  have hb : ∀ a, (j a).val < (![1, 64, min 56 (510 - t.val % 10 * 56), 512] : Fin 4 → ℕ) a := fun a => by
    rw [← xsize_out t]; exact (j a).isLt
  have h0 : (j 0).val < 1 := hb 0
  have h1 : (j 1).val < 64 := hb 1
  have h2 : (j 2).val < min 56 (510 - t.val % 10 * 56) := hb 2
  have h3 : (j 3).val < 512 := hb 3
  refine (congrArg _ (xinj_out t j h1 (by omega) h3 (by omega))).trans ?_
  refine (outBlk_conv m c t d0 _ _ _ ht (by show _ + (j 2).val < 510; omega)).trans ?_
  rw [View.read_apply, emb_out t j ht h1 (by omega) h3 (by omega)]
  rfl

end Cert.KernelIdeal.Conv

end
-- ==== Proof.RunIdeal.lean ====
/-
  The run of the kernel over ideal values: it ends with its result array holding the convolution of its arguments with
  the biases added, its last two lanes dropped; its three argument arrays as they were; and every counter at zero.
-/
module

public import proofs.«01_k».proof.Proof.PointIdeal

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The convolution of the arrays as the region finds them. -/
def staged (c : Dev nD) : S8x64x510x512.Idx → Elt Ideal .bf16 := conv (V m c main_arg0) (V m c main_v0) (V m c main_v1)

/-- The image block at a point, its rows past the image's end filled with zeros. -/
def imgBlk (c : Dev nD) (t : Fin cfg0.N) : S1x3x56x512.Idx → Elt Ideal .f32 :=
  win0_0.fill (grid0.coords t) (fun _ => (0 : EReal)) (iblk m c 0 t)

/-- The output block at a point, its rows past the array's end filled with zeros. -/
def resBlk (c : Dev nD) (t : Fin cfg0.N) : S1x64x56x512.Idx → Elt Ideal .bf16 :=
  win0_4.fill (grid0.coords t) (fun _ => (0 : EReal)) ((win0_4.blk t).view.read (Elt Ideal) (staged m c))

/-- The proof data: each window's array as the region finds it; after the body each input buffer at its block and the
    output's at the convolution's block, both stated on the rows inside the arrays only. -/
def dats (_ : Fin 1) (c : Dev nD) : Dat τ (Elt Ideal) Unit ℕ (UR sig nD τ) ℕ cfg0 c where
  A w := V m c (Pipeline.arrRef spec0 w)
  after w t := match w with
    | ⟨0, _⟩ => imgBlk m c t
    | ⟨1, _⟩ => iblk m c 1 t
    | ⟨2, _⟩ => iblk m c 2 t
    | ⟨3, _⟩ => iblk m c 3 t
    | ⟨4, _⟩ => resBlk m c t
  Φ _ := Pipeline.ΦA spec0 c
  q w := Pipeline.shareOf spec0 w
  owed _ := 0

/-- The body finds the image block in its buffer, over whatever the rows past the image's end held. -/
theorem before_img (c : Dev nD) (t : Fin cfg0.N) (d) :
    (dats m 0 c).before 0 t d = win0_0.fill (grid0.coords t) d (iblk m c 0 t) := by
  unfold Dat.before; rw [if_pos (fetch0_0 t)]; rfl

/-- The body finds the halo block, the weights and the biases in their buffers. -/
theorem before_halo (c : Dev nD) (t : Fin cfg0.N) (d) : (dats m 0 c).before 1 t d = iblk m c 1 t :=
  before0_1_of m (dats m 0 c) rfl (fun _ => by dsimp only [dats]) t d
theorem before_wts (c : Dev nD) (t : Fin cfg0.N) (d) : (dats m 0 c).before 2 t d = iblk m c 2 t :=
  before0_2_of m (dats m 0 c) rfl (fun _ => by dsimp only [dats]) t d
theorem before_bias (c : Dev nD) (t : Fin cfg0.N) (d) : (dats m 0 c).before 3 t d = iblk m c 3 t :=
  before0_3_of m (dats m 0 c) rfl (fun _ => by dsimp only [dats]) t d

/-- The body at every point keeps the four input buffers and leaves the convolution's block in the output's, on the
    rows inside the array. -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_img m c t d0, before_halo m c t d1, before_wts m c t d2, before_bias m c t d3]
  iapply (sound_kernel (F := Ideal) c Set.univ (grid0.coords t) _ _ _ _ _ _ _ _ _ _
    (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    have hx : win0_0.cut (grid0.coords t) (imgBlk m c t) = iblk m c 0 t := win0_0.cut_fill _ _ _
    change _ ⊢ owns (c : Thread nD τ) (st0_0 t) fullShare
      (win0_0.fill (grid0.coords t) d0 (win0_0.cut (grid0.coords t) (imgBlk m c t)))
    rw [hx]; try iexact H0
  isplitl [H1]; · iexact H1
  isplitl [H2]; · iexact H2
  isplitl [H3]; · iexact H3
  iexists (outBlk (win0_0.fill (grid0.coords t) d0 (iblk m c 0 t)) (iblk m c 1 t) (iblk m c 2 t) (iblk m c 3 t))
  have hy : win0_4.cut (grid0.coords t) (resBlk m c t) = (win0_4.blk t).view.read (Elt Ideal) (staged m c) := win0_4.cut_fill _ _ _
  have ho : win0_4.fill (grid0.coords t)
        (outBlk (win0_0.fill (grid0.coords t) d0 (iblk m c 0 t)) (iblk m c 1 t) (iblk m c 2 t) (iblk m c 3 t))
        (win0_4.cut (grid0.coords t) (resBlk m c t))
      = outBlk (win0_0.fill (grid0.coords t) d0 (iblk m c 0 t)) (iblk m c 1 t) (iblk m c 2 t) (iblk m c 3 t) :=
    win0_4.fill_congr_cut _ ((point m c t d0).trans hy.symm)
  change _ ⊢ owns (c : Thread nD τ) (st0_4 t) fullShare
    (win0_4.fill (grid0.coords t) (outBlk (win0_0.fill (grid0.coords t) d0 (iblk m c 0 t)) (iblk m c 1 t) (iblk m c 2 t) (iblk m c 3 t))
      (win0_4.cut (grid0.coords t) (resBlk m c t)))
  rw [ho]; try iexact H4

/-- Every entry of the output array is written by some point, so the array ends as the convolution. -/
theorem final_out (c : Dev nD) : (dats m 0 c).arrAt 4 cfg0.N = staged m c := by
  refine (dats m 0 c).arrAt_eq_of_cover 4 (staged m c) (fun t _ => ?_) ?_
  · exact win0_4.cut_fill (grid0.coords t) _ _
  · exact Pipeline.Window.Covers.cover (w := win0_4) (by decide +kernel) (arr_whole0 4)

/-- The output array without its last two lanes: what the host's last two lines return. -/
def result (c : Dev nD) : S8x64x510x510.Idx → Elt Ideal .f32 :=
  extf (F := Ideal) .f32 (extractStridedSlice S8x64x510x510 ![0, 0, 0, 0] (staged m c : Vec Ideal S8x64x510x512 .bf16)
    slices_S8x64x510x512_S8x64x510x510_0_0_0_0) bitsLt_bf16_f32

/-- The result array after the host's last two lines: the output array without its last two lanes. -/
theorem tail_out (c : Dev nD) :
    Pipeline.afterTail₀ cfgs (dats m) 0 (V0 m) [hostOps1] c main_v4
      = result m c := by
  unfold Pipeline.afterTail₀
  have h : Pipeline.withArrays (cfgs 0).spec c (V0 m c) (fun w => (dats m 0 c).arrAt w (cfgs 0).N) (Proc.devRef .tc main_v2)
      = staged m c :=
    (Dat.withArrays_arrAt (dats m 0 c) launch₀0.sharedIn (V0 m c) (fun _ => rfl) 4).trans (final_out m c)
  unfold result
  rw [← h]
  generalize Pipeline.withArrays (cfgs 0).spec c (V0 m c) (fun w => (dats m 0 c).arrAt w (cfgs 0).N) = W
  show StableHlo.after hostOps1 W (Proc.devRef .tc main_v4) = _
  unfold hostOps1
  after_results_simp

set_option backward.isDefEq.respectTransparency.types false in
/-- The kernel's run: the result's value, the arguments unchanged, the counters at zero. -/
theorem run : θ_run defs (onTc (τ := τ) (main (F := Ideal))) ⟨m, fun _ => 0, ρ⟩ (fun r => (∀ c : Dev nD,
      r.2.mem ((c.tc : Thread nD τ).loc main_v4)
          = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_shared cfgs (dats m) (0 : Fin 1) launch₀0 defs₀ Variants.none
    m ρ main (hbody := body_obligation m) (hq := fun _ _ _ => rfl) (howed := fun _ _ => rfl) (V₀ := V0 m)
    (opss := [hostOps1]) sfx_sub sfx_fresh sfx_keeps (hmain m Variants.none)
    (hA := fun _ _ => rfl) (hΦ := fun _ _ => rfl)
    (Q' := _) (hQ' := fun r h => ⟨fun c => ⟨
      ((h.1 c).2 main_v4 (Pipeline.mem_restRefs_of main_v4 (by decide) (by decide))).trans (tail_out m c),
      ((h.1 c).1 1).trans (((dats m 0 c).arrAt_in 1 rfl _).trans (V_main_arg0 m c)),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩, h.2⟩)

end Cert.KernelIdeal.Conv

end
-- ==== Proof.EqualIdeal.lean ====
/-
  The kernel's result equals the reference's, over ideal values: both are, at image n, channel d, row y and lane x,
  the sum over 3 channels and 3 by 3 taps of image entry times weight, plus the sum of channel d's 27 biases. The
  kernel runs over the 27 taps in one sum, the reference adds nine sums of three, one for each place in the 3 by 3
  window; sums of extended reals may be regrouped freely.
-/
module

public import proofs.«01_k».proof.Proof.RunIdeal
public import proofs.«01_k».proof.Proof.Gen.ReferenceIdeal.Run

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic

/-- A tap's number, as its channel, its row offset and its lane offset. -/
def tap : Fin 27 ≃ Fin 3 × Fin 3 × Fin 3 where
  toFun k := (⟨k.val / 9, by omega⟩, ⟨k.val / 3 % 3, by omega⟩, ⟨k.val % 3, by omega⟩)
  invFun p := ⟨p.1.val * 9 + p.2.1.val * 3 + p.2.2.val, by omega⟩
  left_inv := by decide
  right_inv := by decide

/-- One sum over the 27 taps is nine sums over the three channels. -/
theorem sum_taps (f : Fin 3 → Fin 3 → Fin 3 → EReal) :
    ∑ k : Fin 27, f ⟨k.val / 9, by omega⟩ ⟨k.val / 3 % 3, by omega⟩ ⟨k.val % 3, by omega⟩
      = ∑ c, f c 0 0 + ∑ c, f c 0 1 + ∑ c, f c 0 2 + ∑ c, f c 1 0 + ∑ c, f c 1 1 + ∑ c, f c 1 2
        + ∑ c, f c 2 0 + ∑ c, f c 2 1 + ∑ c, f c 2 2 := by
  have h : ∑ k : Fin 27, f ⟨k.val / 9, by omega⟩ ⟨k.val / 3 % 3, by omega⟩ ⟨k.val % 3, by omega⟩
      = ∑ p : Fin 3 × Fin 3 × Fin 3, f p.1 p.2.1 p.2.2 := Fintype.sum_equiv tap _ _ fun _ => rfl
  rw [h]
  simp only [Fintype.sum_prod_type, Fin.sum_univ_three]
  abel

/-- The reference's sum of a channel's biases over three axes is the sum over their 27 numbers. -/
theorem bias_sum (B : S64x3x3x3.Idx → EReal) (h : S64x3x3x3.ReducesTo [1, 2, 3] S64) (d : Fin 64) :
    Ideal.hostReduceAdd h B 0 (ix1 d)
      = ∑ k : Fin 27, B (ix4 d ⟨k.val / 9, by omega⟩ ⟨k.val / 3 % 3, by omega⟩ ⟨k.val % 3, by omega⟩) := by
  unfold Ideal.hostReduceAdd
  rw [zero_add]
  refine Finset.sum_filter_eq_sum_of_fiber _ (fun k : Fin 27 => (ix4 d (⟨k.val / 9, by omega⟩ : Fin 3)
    (⟨k.val / 3 % 3, by omega⟩ : Fin 3) (⟨k.val % 3, by omega⟩ : Fin 3) : S64x3x3x3.Idx)) ?_ ?_ B
  · intro a b e
    exact tap.injective (Prod.ext (congrFun e 1) (Prod.ext (congrFun e 2) (congrFun e 3)))
  · intro i
    constructor
    · intro e
      refine ⟨tap.symm (i 1, i 2, i 3), ?_⟩
      have ht := tap.apply_symm_apply (i 1, i 2, i 3)
      funext a
      match a with
      | ⟨0, _⟩ => exact (congrFun e 0).symm
      | ⟨1, _⟩ => exact congrArg Prod.fst ht
      | ⟨2, _⟩ => exact congrArg (fun p => p.2.1) ht
      | ⟨3, _⟩ => exact congrArg (fun p => p.2.2) ht
    · rintro ⟨k, rfl⟩
      funext b
      match b with
      | ⟨0, _⟩ => rfl

variable (m : (ℓ : Loc nD τ sig) → Buf (Elt Ideal) ℓ)

/-- The region finds the weights as a table of 27 columns. -/
theorem V_wts (c : Dev nD) (d : Fin 64) (k : Fin 27) :
    V m c main_v0 (ix2 d k) = m ((c.tc : Thread nD τ).loc main_arg1)
      (ix4 d ⟨k.val / 9, by omega⟩ ⟨k.val / 3 % 3, by omega⟩ ⟨k.val % 3, by omega⟩) := by
  show StableHlo.after hostOps0 (fun b => m (c, b)) (Proc.devRef .tc main_v0) (ix2 d k) = _
  unfold hostOps0
  after_results_simp
  pointwise []

/-- The region finds the biases as a table of 27 columns. -/
theorem V_bias (c : Dev nD) (d : Fin 64) (k : Fin 27) :
    V m c main_v1 (ix2 d k) = m ((c.tc : Thread nD τ).loc main_arg2)
      (ix4 d ⟨k.val / 9, by omega⟩ ⟨k.val / 3 % 3, by omega⟩ ⟨k.val % 3, by omega⟩) := by
  show StableHlo.after hostOps0 (fun b => m (c, b)) (Proc.devRef .tc main_v1) (ix2 d k) = _
  unfold hostOps0
  after_results_simp
  pointwise []

/-- The product of one image entry and one weight: channel `ch`, row offset `dy`, lane offset `dx`. -/
def prod (X : S8x3x512x512.Idx → EReal) (W : S64x3x3x3.Idx → EReal) (n : Fin 8) (d : Fin 64) (y x : Fin 510)
    (ch dy dx : Fin 3) : EReal :=
  X (ix4 n ch (⟨y.val + dy.val, by omega⟩ : Fin 512) (⟨x.val + dx.val, by omega⟩ : Fin 512)) * W (ix4 d ch dy dx)

/-- The kernel's result at an index, over its arguments. -/
theorem result_at (c : Dev nD) (n : Fin 8) (d : Fin 64) (y x : Fin 510) (X : S8x3x512x512.Idx → EReal)
    (W B : S64x3x3x3.Idx → EReal) (hX : m ((c.tc : Thread nD τ).loc main_arg0) = X)
    (hW : m ((c.tc : Thread nD τ).loc main_arg1) = W) (hB : m ((c.tc : Thread nD τ).loc main_arg2) = B) :
    result m c (ix4 n d y x)
      = ((∑ k : Fin 27, prod X W n d y x ⟨k.val / 9, by omega⟩ ⟨k.val / 3 % 3, by omega⟩ ⟨k.val % 3, by omega⟩)
        + ∑ k : Fin 27, B (ix4 d ⟨k.val / 9, by omega⟩ ⟨k.val / 3 % 3, by omega⟩ ⟨k.val % 3, by omega⟩) : EReal) := by
  have hs : result m c (ix4 n d y x) = staged m c (ix4 n d y (⟨x.val, by omega⟩ : Fin 512)) := by
    unfold result
    pointwise []
  rw [hs]
  refine congrArg₂ (fun a b : EReal => a + b) ?_ ?_
  · refine Finset.sum_congr rfl fun k _ => ?_
    refine (mul_comm _ _).trans ?_
    refine congrArg₂ (fun a b : EReal => a * b) ?_ ((V_wts m c d k).trans (congrFun hW _))
    refine (congrFun ((V_main_arg0 m c).trans hX) _).trans (congrArg X ?_)
    funext a
    fin_cases a
    · rfl
    · rfl
    · rfl
    · exact Fin.ext (by show (x.val + k.val % 3) % 512 = x.val + k.val % 3; omega)
  · refine Finset.sum_congr rfl fun k _ => ?_
    exact (V_bias m c d k).trans (congrFun hB _)

/-- The reference's result at an index, over its arguments. -/
theorem reference_at (m' : (ℓ : Loc Cert.ReferenceIdeal.nD Cert.ReferenceIdeal.τ Cert.ReferenceIdeal.sig) → Buf (Elt Ideal) ℓ)
    (c : Dev Cert.ReferenceIdeal.nD) (n : Fin 8) (d : Fin 64) (y x : Fin 510) (X : S8x3x512x512.Idx → EReal)
    (W B : S64x3x3x3.Idx → EReal)
    (hX : m' ((c.tc : Thread Cert.ReferenceIdeal.nD Cert.ReferenceIdeal.τ).loc Cert.ReferenceIdeal.main_arg0) = X)
    (hW : m' ((c.tc : Thread Cert.ReferenceIdeal.nD Cert.ReferenceIdeal.τ).loc Cert.ReferenceIdeal.main_arg1) = W)
    (hB : m' ((c.tc : Thread Cert.ReferenceIdeal.nD Cert.ReferenceIdeal.τ).loc Cert.ReferenceIdeal.main_arg2) = B) :
    Cert.ReferenceIdeal.Value.res_main_v58 m' c (ix4 n d y x)
      = ((∑ k : Fin 27, prod X W n d y x ⟨k.val / 9, by omega⟩ ⟨k.val / 3 % 3, by omega⟩ ⟨k.val % 3, by omega⟩)
        + ∑ k : Fin 27, B (ix4 d ⟨k.val / 9, by omega⟩ ⟨k.val / 3 % 3, by omega⟩ ⟨k.val % 3, by omega⟩) : EReal) := by
  unfold Cert.ReferenceIdeal.Value.res_main_v58
  rw [hX, hW, hB]
  pointwise []
  rw [← bias_sum B Cert.ReferenceIdeal.Gen.reducesTo_S64x3x3x3_S64_d1_2_3 d, sum_taps (prod X W n d y x)]
  unfold prod
  simp only [Nat.add_comm _ y.val, Nat.add_comm _ x.val]
  rfl

/-- The two results are equal where the arguments are. -/
theorem results_equal (m' : (ℓ : Loc Cert.ReferenceIdeal.nD Cert.ReferenceIdeal.τ Cert.ReferenceIdeal.sig) → Buf (Elt Ideal) ℓ)
    (c : Dev nD)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)) :
    Cert.ReferenceIdeal.Value.res_main_v58 m' c = result m c := by
  funext i
  obtain ⟨n, d, y, x, rfl⟩ : ∃ (n : Fin 8) (d : Fin 64) (y x : Fin 510), i = ix4 n d y x :=
    ⟨i 0, i 1, i 2, i 3, by funext a; fin_cases a <;> rfl⟩
  exact (reference_at m' c n d y x _ _ _ h.1 h.2.1 h.2.2).trans (result_at m c n d y x _ _ _ rfl rfl rfl).symm

end Cert.KernelIdeal.Conv

end
-- ==== Proof.lean ====
/-
  The certificate: the five claims about the convolution kernel, put together from the modules under Proof/.
  The frame of the compiled kernel is FrameBits's; the frame and the value of the kernel over the extended reals are
  RunIdeal's; the reference's run is the generated one; the equation of the two results is EqualIdeal's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.FrameBits
public import proofs.«01_k».proof.Proof.RunIdeal
public import proofs.«01_k».proof.Proof.EqualIdeal
public import Idealize.ShloMosaic.Adequacy
public import Idealize.ShloMosaic.Init

@[expose] public section

noncomputable section

namespace Cert.Proof

open Idealize.ShloMosaic Idealize.SL.Sem

/-- The reference terminates, leaves its arguments as they were and ends with every counter at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => ⟨(h c).2.1, (h c).2.2.1, (h c).2.2.2⟩, sem_eq_zero_of_no_sems (by decide) r.2⟩)
    (Cert.ReferenceIdeal.Value.run m ρ)

/-- Kernel and reference, on equal arguments, end with equal results over the extended reals. -/
theorem algebraic : Cert.algebraic_KernelIdeal_ReferenceIdeal (hKernelIdeal := Cert.KernelIdeal.Gen.facts)
    (hReferenceIdeal := Cert.ReferenceIdeal.Gen.facts) :=
  fun m g m' g' _ hagree => ⟨fun c => Cert.KernelIdeal.Conv.result m c,
    (θ_run Cert.KernelIdeal.defs _ _).mono (fun _ h => h.1) (Cert.KernelIdeal.Conv.run m g),
    (θ_run Cert.ReferenceIdeal.defs _ _).mono
      (fun _ h c => ⟨(h c).1.trans (Cert.KernelIdeal.Conv.results_equal m m' c (hagree c)), (h c).2⟩)
      (Cert.ReferenceIdeal.Value.run m' g')⟩

/-- All five claims. -/
theorem claim : Cert.Claim := ⟨Cert.Kernel.Gen.facts, Cert.KernelIdeal.Gen.facts, Cert.ReferenceIdeal.Gen.facts,
  fun m g _ => Cert.Kernel.Conv.frame m g,
  fun m g _ => (θ_run Cert.KernelIdeal.defs _ _).mono
    (fun _ h => ⟨fun c => (h.1 c).2, h.2⟩) (Cert.KernelIdeal.Conv.run m g),
  fun m g _ => frame_reference m g,
  trivial,
  algebraic⟩

end Cert.Proof

end
